-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unbiased_and_distributing [hPre_unbiased_and_distributing : Cert.Pre_unbiased_and_distributing.Facts] (m : (ℓ : Loc Cert.KernelIdeal.nD Cert.KernelIdeal.τ Cert.KernelIdeal.sig) → Buf (Elt Ideal) ℓ) : Prop :=
  ∀ c : Dev Cert.KernelIdeal.nD,
    (Cert.Pre_unbiased_and_distributing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unbiased_and_distributing [hPre_unbiased_and_distributing : Cert.Pre_unbiased_and_distributing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unbiased_and_distributing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_unbiased_and_distributing [hKernelIdeal : Cert.KernelIdeal.Facts] [hPre_unbiased_and_distributing : Cert.Pre_unbiased_and_distributing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unbiased_and_distributing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_unbiased_and_distributing [hReferenceIdeal : Cert.ReferenceIdeal.Facts] [hPre_unbiased_and_distributing : Cert.Pre_unbiased_and_distributing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unbiased_and_distributing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_unbiased_and_distributing [hKernelIdeal : Cert.KernelIdeal.Facts] [hReferenceIdeal : Cert.ReferenceIdeal.Facts] [hPre_unbiased_and_distributing : Cert.Pre_unbiased_and_distributing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unbiased_and_distributing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_unbiased_and_distributing : Cert.Pre_unbiased_and_distributing.Facts),
    quiescent_Kernel (hKernel := hKernel)
    ∧ quiescent_KernelIdeal (hKernelIdeal := hKernelIdeal)
    ∧ quiescent_KernelIdeal_pre_unbiased_and_distributing (hKernelIdeal := hKernelIdeal) (hPre_unbiased_and_distributing := hPre_unbiased_and_distributing)
    ∧ quiescent_ReferenceIdeal (hReferenceIdeal := hReferenceIdeal)
    ∧ quiescent_ReferenceIdeal_pre_unbiased_and_distributing (hReferenceIdeal := hReferenceIdeal) (hPre_unbiased_and_distributing := hPre_unbiased_and_distributing)
    ∧ preserves_Kernel_KernelIdeal
    ∧ algebraic_KernelIdeal_ReferenceIdeal_pre_unbiased_and_distributing (hKernelIdeal := hKernelIdeal) (hReferenceIdeal := hReferenceIdeal) (hPre_unbiased_and_distributing := hPre_unbiased_and_distributing)
-- ==== Pre_unbiased_and_distributing.lean ====
abbrev S4096x8 : Shape := ⟨2, ![4096, 8]⟩
abbrev S4096x512 : Shape := ⟨2, ![4096, 512]⟩
abbrev S8x1024x512 : Shape := ⟨3, ![8, 1024, 512]⟩
abbrev S8x1024 : Shape := ⟨2, ![8, 1024]⟩
abbrev S8x1024x1024 : Shape := ⟨3, ![8, 1024, 1024]⟩
abbrev S8x512x1024 : Shape := ⟨3, ![8, 512, 1024]⟩
abbrev S8x512 : Shape := ⟨2, ![8, 512]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_
  bcast_S_S4096x8 : S_.BroadcastsInDim S4096x8 (![] : Fin 0 → Fin S4096x8.rank)
  reducesTo_S4096x8_S_d0_1 : S4096x8.ReducesTo [0, 1] S_
  bcast_S_S4096x512 : S_.BroadcastsInDim S4096x512 (![] : Fin 0 → Fin S4096x512.rank)
  reducesTo_S4096x512_S_d0_1 : S4096x512.ReducesTo [0, 1] S_
  bcast_S_S8x1024x512 : S_.BroadcastsInDim S8x1024x512 (![] : Fin 0 → Fin S8x1024x512.rank)
  reducesTo_S8x1024x512_S_d0_1_2 : S8x1024x512.ReducesTo [0, 1, 2] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x512x1024 : S_.BroadcastsInDim S8x512x1024 (![] : Fin 0 → Fin S8x512x1024.rank)
  reducesTo_S8x512x1024_S_d0_1_2 : S8x512x1024.ReducesTo [0, 1, 2] S_

variable [Facts]

def fn_part3 {F : FTy → Type} [FloatOps F] (main_v10 : IVec S_ 1) (main_v16 : IVec S_ 1) (main_v43 : IVec S_ 1) (main_v48 : IVec S8x512x1024 1) : IVec S_ 1 :=
  let main_c_21 : IVec S_ 1 := constantI S_ 1 1#1
  let main_v49 : IVec S_ 1 := (fun x v => Host.reduce IntOp.andi x v reducesTo_S8x512x1024_S_d0_1_2 h_S_) main_v48 main_c_21
  let main_v50 : IVec S_ 1 := andi main_v43 main_v49
  let main_v51 : IVec S_ 1 := ori main_v16 main_v50
  let main_v52 : IVec S_ 1 := andi main_v10 main_v51
  main_v52

def fn_part2 {F : FTy → Type} [FloatOps F] (main_arg2 : FVec F S8x1024x512 .f32) (main_arg4 : FVec F S8x1024x1024 .f32) (main_arg6 : FVec F S8x512x1024 .f32) (main_v10 : IVec S_ 1) (main_v16 : IVec S_ 1) (main_v29 : IVec S_ 1) (main_v31 : IVec S8x1024x512 1) : IVec S_ 1 :=
  let main_cst_14 : FVec F S_ .f32 := constant S_ .f32 0x7F800000#32
  let main_v32 : FVec F S8x1024x512 .f32 := broadcastInDim S8x1024x512 ![] bcast_S_S8x1024x512 main_cst_14
  let main_v33 : IVec S8x1024x512 1 := cmpf .olt main_arg2 main_v32
  let main_v34 : IVec S8x1024x512 1 := andi main_v31 main_v33
  let main_c_15 : IVec S_ 1 := constantI S_ 1 1#1
  let main_v35 : IVec S_ 1 := (fun x v => Host.reduce IntOp.andi x v reducesTo_S8x1024x512_S_d0_1_2 h_S_) main_v34 main_c_15
  let main_v36 : IVec S_ 1 := andi main_v29 main_v35
  let main_cst_16 : FVec F S_ .f32 := constant S_ .f32 0xFF800000#32
  let main_v37 : FVec F S8x1024x1024 .f32 := broadcastInDim S8x1024x1024 ![] bcast_S_S8x1024x1024 main_cst_16
  let main_v38 : IVec S8x1024x1024 1 := cmpf .ogt main_arg4 main_v37
  let main_cst_17 : FVec F S_ .f32 := constant S_ .f32 0x7F800000#32
  let main_v39 : FVec F S8x1024x1024 .f32 := broadcastInDim S8x1024x1024 ![] bcast_S_S8x1024x1024 main_cst_17
  let main_v40 : IVec S8x1024x1024 1 := cmpf .olt main_arg4 main_v39
  let main_v41 : IVec S8x1024x1024 1 := andi main_v38 main_v40
  let main_c_18 : IVec S_ 1 := constantI S_ 1 1#1
  let main_v42 : IVec S_ 1 := (fun x v => Host.reduce IntOp.andi x v reducesTo_S8x1024x1024_S_d0_1_2 h_S_) main_v41 main_c_18
  let main_v43 : IVec S_ 1 := andi main_v36 main_v42
  let main_cst_19 : FVec F S_ .f32 := constant S_ .f32 0xFF800000#32
  let main_v44 : FVec F S8x512x1024 .f32 := broadcastInDim S8x512x1024 ![] bcast_S_S8x512x1024 main_cst_19
  let main_v45 : IVec S8x512x1024 1 := cmpf .ogt main_arg6 main_v44
  let main_cst_20 : FVec F S_ .f32 := constant S_ .f32 0x7F800000#32
  let main_v46 : FVec F S8x512x1024 .f32 := broadcastInDim S8x512x1024 ![] bcast_S_S8x512x1024 main_cst_20
  let main_v47 : IVec S8x512x1024 1 := cmpf .olt main_arg6 main_v46
  let main_v48 : IVec S8x512x1024 1 := andi main_v45 main_v47
  fn_part3 (F := F) main_v10 main_v16 main_v43 main_v48

def fn_part1 {F : FTy → Type} [FloatOps F] (main_arg0 : FVec F S4096x8 .f32) (main_arg1 : FVec F S4096x512 .f32) (main_arg2 : FVec F S8x1024x512 .f32) (main_arg4 : FVec F S8x1024x1024 .f32) (main_arg6 : FVec F S8x512x1024 .f32) (main_v10 : IVec S_ 1) (main_v15 : IVec S4096x8 1) : IVec S_ 1 :=
  let main_c_6 : IVec S_ 1 := constantI S_ 1 1#1
  let main_v16 : IVec S_ 1 := (fun x v => Host.reduce IntOp.andi x v reducesTo_S4096x8_S_d0_1 h_S_) main_v15 main_c_6
  let main_cst_7 : FVec F S_ .f32 := constant S_ .f32 0xFF800000#32
  let main_v17 : FVec F S4096x8 .f32 := broadcastInDim S4096x8 ![] bcast_S_S4096x8 main_cst_7
  let main_v18 : IVec S4096x8 1 := cmpf .ogt main_arg0 main_v17
  let main_cst_8 : FVec F S_ .f32 := constant S_ .f32 0x7F800000#32
  let main_v19 : FVec F S4096x8 .f32 := broadcastInDim S4096x8 ![] bcast_S_S4096x8 main_cst_8
  let main_v20 : IVec S4096x8 1 := cmpf .olt main_arg0 main_v19
  let main_v21 : IVec S4096x8 1 := andi main_v18 main_v20
  let main_c_9 : IVec S_ 1 := constantI S_ 1 1#1
  let main_v22 : IVec S_ 1 := (fun x v => Host.reduce IntOp.andi x v reducesTo_S4096x8_S_d0_1 h_S_) main_v21 main_c_9
  let main_cst_10 : FVec F S_ .f32 := constant S_ .f32 0xFF800000#32
  let main_v23 : FVec F S4096x512 .f32 := broadcastInDim S4096x512 ![] bcast_S_S4096x512 main_cst_10
  let main_v24 : IVec S4096x512 1 := cmpf .ogt main_arg1 main_v23
  let main_cst_11 : FVec F S_ .f32 := constant S_ .f32 0x7F800000#32
  let main_v25 : FVec F S4096x512 .f32 := broadcastInDim S4096x512 ![] bcast_S_S4096x512 main_cst_11
  let main_v26 : IVec S4096x512 1 := cmpf .olt main_arg1 main_v25
  let main_v27 : IVec S4096x512 1 := andi main_v24 main_v26
  let main_c_12 : IVec S_ 1 := constantI S_ 1 1#1
  let main_v28 : IVec S_ 1 := (fun x v => Host.reduce IntOp.andi x v reducesTo_S4096x512_S_d0_1 h_S_) main_v27 main_c_12
  let main_v29 : IVec S_ 1 := andi main_v22 main_v28
  let main_cst_13 : FVec F S_ .f32 := constant S_ .f32 0xFF800000#32
  let main_v30 : FVec F S8x1024x512 .f32 := broadcastInDim S8x1024x512 ![] bcast_S_S8x1024x512 main_cst_13
  let main_v31 : IVec S8x1024x512 1 := cmpf .ogt main_arg2 main_v30
  fn_part2 (F := F) main_arg2 main_arg4 main_arg6 main_v10 main_v16 main_v29 main_v31

def fn {F : FTy → Type} [FloatOps F] (main_arg0 : FVec F S4096x8 .f32) (main_arg1 : FVec F S4096x512 .f32) (main_arg2 : FVec F S8x1024x512 .f32) (main_arg3 : FVec F S8x1024 .f32) (main_arg4 : FVec F S8x1024x1024 .f32) (main_arg5 : FVec F S8x1024 .f32) (main_arg6 : FVec F S8x512x1024 .f32) (main_arg7 : FVec F S8x512 .f32) : IVec S_ 1 :=
  let main_cst : FVec F S_ .f32 := constant S_ .f32 0x00000000#32
  let main_v0 : FVec F S8x1024 .f32 := broadcastInDim S8x1024 ![] bcast_S_S8x1024 main_cst
  let main_v1 : IVec S8x1024 1 := cmpf .oeq main_arg3 main_v0
  let main_c : IVec S_ 1 := constantI S_ 1 1#1
  let main_v2 : IVec S_ 1 := (fun x v => Host.reduce IntOp.andi x v reducesTo_S8x1024_S_d0_1 h_S_) main_v1 main_c
  let main_cst_0 : FVec F S_ .f32 := constant S_ .f32 0x00000000#32
  let main_v3 : FVec F S8x1024 .f32 := broadcastInDim S8x1024 ![] bcast_S_S8x1024 main_cst_0
  let main_v4 : IVec S8x1024 1 := cmpf .oeq main_arg5 main_v3
  let main_c_1 : IVec S_ 1 := constantI S_ 1 1#1
  let main_v5 : IVec S_ 1 := (fun x v => Host.reduce IntOp.andi x v reducesTo_S8x1024_S_d0_1 h_S_) main_v4 main_c_1
  let main_v6 : IVec S_ 1 := andi main_v2 main_v5
  let main_cst_2 : FVec F S_ .f32 := constant S_ .f32 0x00000000#32
  let main_v7 : FVec F S8x512 .f32 := broadcastInDim S8x512 ![] bcast_S_S8x512 main_cst_2
  let main_v8 : IVec S8x512 1 := cmpf .oeq main_arg7 main_v7
  let main_c_3 : IVec S_ 1 := constantI S_ 1 1#1
  let main_v9 : IVec S_ 1 := (fun x v => Host.reduce IntOp.andi x v reducesTo_S8x512_S_d0_1 h_S_) main_v8 main_c_3
  let main_v10 : IVec S_ 1 := andi main_v6 main_v9
  let main_cst_4 : FVec F S_ .f32 := constant S_ .f32 0x00000000#32
  let main_v11 : FVec F S4096x8 .f32 := broadcastInDim S4096x8 ![] bcast_S_S4096x8 main_cst_4
  let main_v12 : IVec S4096x8 1 := cmpf .oge main_arg0 main_v11
  let main_cst_5 : FVec F S_ .f32 := constant S_ .f32 0x7F800000#32
  let main_v13 : FVec F S4096x8 .f32 := broadcastInDim S4096x8 ![] bcast_S_S4096x8 main_cst_5
  let main_v14 : IVec S4096x8 1 := cmpf .olt main_arg0 main_v13
  let main_v15 : IVec S4096x8 1 := andi main_v12 main_v14
  fn_part1 (F := F) main_arg0 main_arg1 main_arg2 main_arg4 main_arg6 main_v10 main_v15
-- ==== Kernel.lean ====
abbrev S4096x8 : Shape := ⟨2, ![4096, 8]⟩
abbrev S4096x512 : Shape := ⟨2, ![4096, 512]⟩
abbrev S8x1024x512 : Shape := ⟨3, ![8, 1024, 512]⟩
abbrev S8x1024 : Shape := ⟨2, ![8, 1024]⟩
abbrev S8x1024x1024 : Shape := ⟨3, ![8, 1024, 1024]⟩
abbrev S8x512x1024 : Shape := ⟨3, ![8, 512, 1024]⟩
abbrev S8x512 : Shape := ⟨2, ![8, 512]⟩
abbrev S8x4096 : Shape := ⟨2, ![8, 4096]⟩
abbrev S1024x4096 : Shape := ⟨2, ![1024, 4096]⟩
abbrev S1024x512 : Shape := ⟨2, ![1024, 512]⟩
abbrev S1024x1024 : Shape := ⟨2, ![1024, 1024]⟩
abbrev S512x1024 : Shape := ⟨2, ![512, 1024]⟩
abbrev S1x1024 : Shape := ⟨2, ![1, 1024]⟩
abbrev S1x1024x512 : Shape := ⟨3, ![1, 1024, 512]⟩
abbrev S1x1024x1024 : Shape := ⟨3, ![1, 1024, 1024]⟩
abbrev S1x512x1024 : Shape := ⟨3, ![1, 512, 1024]⟩

abbrev nBuf : Space → Nat
  | .hbm => 12
  | .vmem => 21
  | .smem => 0
  | _ => 0

abbrev bufTy : (tb : Table) → Fin (tcTables nBuf tb) → BufTy
  | .hbm, ⟨0, _⟩ => ⟨S4096x8, .f32⟩
  | .hbm, ⟨1, _⟩ => ⟨S4096x512, .f32⟩
  | .hbm, ⟨2, _⟩ => ⟨S8x1024x512, .f32⟩
  | .hbm, ⟨3, _⟩ => ⟨S8x1024, .f32⟩
  | .hbm, ⟨4, _⟩ => ⟨S8x1024x1024, .f32⟩
  | .hbm, ⟨5, _⟩ => ⟨S8x1024, .f32⟩
  | .hbm, ⟨6, _⟩ => ⟨S8x512x1024, .f32⟩
  | .hbm, ⟨7, _⟩ => ⟨S8x512, .f32⟩
  | .hbm, ⟨8, _⟩ => ⟨S8x4096, .f32⟩
  | .hbm, ⟨9, _⟩ => ⟨S1024x4096, .f32⟩
  | .hbm, ⟨10, _⟩ => ⟨S1024x4096, .f32⟩
  | .hbm, ⟨11, _⟩ => ⟨S4096x512, .f32⟩
  | .local _ .vmem, ⟨0, _⟩ => ⟨S8x1024, .f32⟩
  | .local _ .vmem, ⟨1, _⟩ => ⟨S8x1024, .f32⟩
  | .local _ .vmem, ⟨2, _⟩ => ⟨S1024x512, .f32⟩
  | .local _ .vmem, ⟨3, _⟩ => ⟨S1024x512, .f32⟩
  | .local _ .vmem, ⟨4, _⟩ => ⟨S8x1024x512, .f32⟩
  | .local _ .vmem, ⟨5, _⟩ => ⟨S1024x1024, .f32⟩
  | .local _ .vmem, ⟨6, _⟩ => ⟨S1024x1024, .f32⟩
  | .local _ .vmem, ⟨7, _⟩ => ⟨S8x1024, .f32⟩
  | .local _ .vmem, ⟨8, _⟩ => ⟨S8x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024x1024, .f32⟩
  | .local _ .vmem, ⟨12, _⟩ => ⟨S1024x1024, .f32⟩
  | .local _ .vmem, ⟨13, _⟩ => ⟨S1024x1024, .f32⟩
  | .local _ .vmem, ⟨14, _⟩ => ⟨S8x1024, .f32⟩
  | .local _ .vmem, ⟨15, _⟩ => ⟨S8x1024, .f32⟩
  | .local _ .vmem, ⟨16, _⟩ => ⟨S1024x1024, .f32⟩
  | .local _ .vmem, ⟨17, _⟩ => ⟨S1024x1024, .f32⟩
  | .local _ .vmem, ⟨18, _⟩ => ⟨S8x512x1024, .f32⟩
  | .local _ .vmem, ⟨19, _⟩ => ⟨S1024x512, .f32⟩
  | .local _ .vmem, ⟨20, _⟩ => ⟨S1024x512, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S4096x8 : Shape := ⟨2, ![4096, 8]⟩
abbrev S4096x512 : Shape := ⟨2, ![4096, 512]⟩
abbrev S8x1024x512 : Shape := ⟨3, ![8, 1024, 512]⟩
abbrev S8x1024 : Shape := ⟨2, ![8, 1024]⟩
abbrev S8x1024x1024 : Shape := ⟨3, ![8, 1024, 1024]⟩
abbrev S8x512x1024 : Shape := ⟨3, ![8, 512, 1024]⟩
abbrev S8x512 : Shape := ⟨2, ![8, 512]⟩
abbrev S4096x8x1024 : Shape := ⟨3, ![4096, 8, 1024]⟩
abbrev S4096x1024 : Shape := ⟨2, ![4096, 1024]⟩
abbrev S_ : Shape := ⟨0, ![]⟩
abbrev S4096x8x512 : Shape := ⟨3, ![4096, 8, 512]⟩

abbrev nBuf : Space → Nat
  | .hbm => 50
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S4096x512, .f32⟩
  | .hbm, ⟨2, _⟩ => ⟨S8x1024x512, .f32⟩
  | .hbm, ⟨3, _⟩ => ⟨S8x1024, .f32⟩
  | .hbm, ⟨4, _⟩ => ⟨S8x1024x1024, .f32⟩
  | .hbm, ⟨5, _⟩ => ⟨S8x1024, .f32⟩
  | .hbm, ⟨6, _⟩ => ⟨S8x512x1024, .f32⟩
  | .hbm, ⟨7, _⟩ => ⟨S8x512, .f32⟩
  | .hbm, ⟨8, _⟩ => ⟨S4096x8x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .i1⟩
  | .hbm, ⟨15, _⟩ => ⟨S_, .f32⟩
  | .hbm, ⟨16, _⟩ => ⟨S4096x1024, .f32⟩
  | .hbm, ⟨17, _⟩ => ⟨S4096x1024, .i1⟩
  | .hbm, ⟨18, _⟩ => ⟨S_, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x8x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .i1⟩
  | .hbm, ⟨34, _⟩ => ⟨S_, .f32⟩
  | .hbm, ⟨35, _⟩ => ⟨S4096x1024, .f32⟩
  | .hbm, ⟨36, _⟩ => ⟨S4096x1024, .i1⟩
  | .hbm, ⟨37, _⟩ => ⟨S_, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x8x512, .f32⟩
  | .hbm, ⟨47, _⟩ => ⟨S4096x512, .f32⟩
  | .hbm, ⟨48, _⟩ => ⟨S4096x512, .f32⟩
  | .hbm, ⟨49, _⟩ => ⟨S4096x512, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_cst_1 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_v4 : Ref sig .tc := ⟨.hbm, 21, rfl⟩
abbrev main_call0_v5 : Ref sig .tc := ⟨.hbm, 22, rfl⟩
abbrev main_call0_cst_2 : Ref sig .tc := ⟨.hbm, 23, rfl⟩
abbrev main_call0_v6 : Ref sig .tc := ⟨.hbm, 24, rfl⟩
abbrev main_call0_v7 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_cst_0 : Ref sig .tc := ⟨.hbm, 34, rfl⟩
abbrev main_call1_v2 : Ref sig .tc := ⟨.hbm, 35, rfl⟩
abbrev main_call1_v3 : Ref sig .tc := ⟨.hbm, 36, rfl⟩
abbrev main_call1_cst_1 : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_v4 : Ref sig .tc := ⟨.hbm, 40, rfl⟩
abbrev main_call1_v5 : Ref sig .tc := ⟨.hbm, 41, rfl⟩
abbrev main_call1_cst_2 : Ref sig .tc := ⟨.hbm, 42, rfl⟩
abbrev main_call1_v6 : Ref sig .tc := ⟨.hbm, 43, rfl⟩
abbrev main_call1_v7 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩

abbrev nD : Nat := 1
abbrev τ : Topo := Topo.v7x

variable {F : FTy → Type} [FloatOps F]
-- ==== Proof.Blend.lean ====
/-
  The arithmetic of the blended mixture of experts on the extended reals, with no program in it.

  A layer takes the blend weights `bl b e`, the inputs `h b i` and the experts' matrices `W e o i`. The kernel scales
  the inputs first and sums the experts' products (`scaled`); the reference blends the experts' outputs (`blended`).
  The two agree where the weights distribute over the sums (`Distributes`): nonnegative finite weights do whatever the
  data is, and finite data does whatever the sign of the weights.
-/
module

public import Idealize.ShloMosaic.PureOps.Ideal

@[expose] public section

noncomputable section

namespace Cert.Blend

open Idealize.ShloMosaic
open scoped BigOperators

/-- The exponential linear unit: `x` where positive, `eˣ - 1` elsewhere. -/
def elu (x : EReal) : EReal := if 0 < x then x else Ideal.exp x - 1

/-- A real number, neither infinity. -/
def Finite (x : EReal) : Prop := ⊥ < x ∧ x < ⊤

variable {B E O I : ℕ}

/-- One layer as the kernel computes it: every expert's matrix times the inputs scaled by that expert's weight. -/
def scaled (bl : Fin B → Fin E → EReal) (h : Fin B → Fin I → EReal) (W : Fin E → Fin O → Fin I → EReal)
    (b : Fin B) (o : Fin O) : EReal :=
  ∑ e, ∑ i, W e o i * (h b i * bl b e)

/-- One layer as the reference computes it: the experts' outputs blended by the weights. -/
def blended (bl : Fin B → Fin E → EReal) (h : Fin B → Fin I → EReal) (W : Fin E → Fin O → Fin I → EReal)
    (b : Fin B) (o : Fin O) : EReal :=
  ∑ e, bl b e * ∑ i, h b i * W e o i

/-- The weights distribute over the sums of the layer: they are nonnegative and finite, or everything is finite. -/
def Distributes (bl : Fin B → Fin E → EReal) (h : Fin B → Fin I → EReal) (W : Fin E → Fin O → Fin I → EReal) : Prop :=
  (∀ b e, 0 ≤ bl b e ∧ bl b e < ⊤)
    ∨ (∀ b e, Finite (bl b e)) ∧ (∀ b i, Finite (h b i)) ∧ ∀ e o i, Finite (W e o i)

/-- A finite number is a real one. -/
theorem Finite.eq_coe {x : EReal} (h : Finite x) : ∃ r : ℝ, x = r :=
  ⟨x.toReal, (EReal.coe_toReal h.2.ne h.1.ne').symm⟩

/-- A real number is finite. -/
theorem finite_coe (r : ℝ) : Finite (r : EReal) := ⟨EReal.bot_lt_coe r, EReal.coe_lt_top r⟩

/-- A product of finite numbers is finite. -/
theorem Finite.mul {x y : EReal} (hx : Finite x) (hy : Finite y) : Finite (x * y) := by
  obtain ⟨a, rfl⟩ := hx.eq_coe
  obtain ⟨b, rfl⟩ := hy.eq_coe
  exact EReal.coe_mul a b ▸ finite_coe _

/-- A sum of two finite numbers is finite. -/
theorem Finite.add {x y : EReal} (hx : Finite x) (hy : Finite y) : Finite (x + y) := by
  obtain ⟨a, rfl⟩ := hx.eq_coe
  obtain ⟨b, rfl⟩ := hy.eq_coe
  exact EReal.coe_add a b ▸ finite_coe _

/-- A sum of finite numbers is finite. -/
theorem Finite.sum {ι : Type} (s : Finset ι) (f : ι → EReal) (h : ∀ i ∈ s, Finite (f i)) : Finite (∑ i ∈ s, f i) :=
  Finset.sum_induction f Finite (fun _ _ => Finite.add) (finite_coe 0) h

/-- The unit keeps finite numbers finite. -/
theorem Finite.elu {x : EReal} (hx : Finite x) : Finite (elu x) := by
  obtain ⟨a, rfl⟩ := hx.eq_coe
  unfold Blend.elu
  split
  · exact finite_coe a
  · exact finite_coe (Real.exp a - 1)

/-- A nonnegative finite factor distributes over any sum. -/
theorem mul_sum_of_nonneg {ι : Type} (s : Finset ι) (c : EReal) (f : ι → EReal) (h0 : 0 ≤ c) (ht : c < ⊤) :
    c * ∑ i ∈ s, f i = ∑ i ∈ s, c * f i := by
  induction s using Finset.cons_induction with
  | empty => simp
  | cons a s ha ih => rw [Finset.sum_cons, Finset.sum_cons, EReal.left_distrib_of_nonneg_of_ne_top h0 ht.ne, ih]

/-- A finite factor distributes over a sum of finite numbers. -/
theorem mul_sum_of_finite {ι : Type} (s : Finset ι) (c : EReal) (f : ι → EReal) (hc : Finite c)
    (hf : ∀ i, Finite (f i)) : c * ∑ i ∈ s, f i = ∑ i ∈ s, c * f i := by
  induction s using Finset.cons_induction with
  | empty => simp
  | cons a s ha ih =>
    rw [Finset.sum_cons, Finset.sum_cons, ← ih]
    obtain ⟨x, hx⟩ := hc.eq_coe
    obtain ⟨y, hy⟩ := (hf a).eq_coe
    obtain ⟨z, hz⟩ := (Finite.sum s f fun i _ => hf i).eq_coe
    rw [hx, hy, hz]
    exact_mod_cast mul_add x y z

/-- The kernel's layer is the reference's. -/
theorem scaled_eq_blended (bl : Fin B → Fin E → EReal) (h : Fin B → Fin I → EReal) (W : Fin E → Fin O → Fin I → EReal)
    (hd : Distributes bl h W) : scaled bl h W = blended bl h W := by
  funext b o
  refine Finset.sum_congr rfl fun e _ => ?_
  have : bl b e * ∑ i, h b i * W e o i = ∑ i, bl b e * (h b i * W e o i) := by
    rcases hd with hd | ⟨hb, hh, hW⟩
    · exact mul_sum_of_nonneg _ _ _ (hd b e).1 (hd b e).2
    · exact mul_sum_of_finite _ _ _ (hb b e) fun i => (hh b i).mul (hW e o i)
  rw [this]
  exact Finset.sum_congr rfl fun i _ => by rw [mul_left_comm, mul_comm (bl b e), mul_assoc]

/-- A layer of finite data is finite. -/
theorem finite_blended (bl : Fin B → Fin E → EReal) (h : Fin B → Fin I → EReal) (W : Fin E → Fin O → Fin I → EReal)
    (hb : ∀ b e, Finite (bl b e)) (hh : ∀ b i, Finite (h b i)) (hW : ∀ e o i, Finite (W e o i)) (b : Fin B) (o : Fin O) :
    Finite (blended bl h W b o) :=
  Finite.sum _ _ fun e _ => (hb b e).mul (Finite.sum _ _ fun i _ => (hh b i).mul (hW e o i))

/-- A hidden layer behind distributing weights leaves the next layer's weights distributing. -/
theorem Distributes.next {P : ℕ} {bl : Fin B → Fin E → EReal} {h : Fin B → Fin I → EReal} {W : Fin E → Fin O → Fin I → EReal}
    {W' : Fin E → Fin P → Fin O → EReal} (hd : Distributes bl h W)
    (hW' : (∀ b e, 0 ≤ bl b e ∧ bl b e < ⊤) ∨ ∀ e o i, Finite (W' e o i)) :
    Distributes bl (fun b o => elu (blended bl h W b o)) W' := by
  rcases hd with hd | ⟨hb, hh, hW⟩
  · exact .inl hd
  · rcases hW' with hn | hW'
    · exact .inl hn
    · exact .inr ⟨hb, fun b o => (finite_blended bl h W hb hh hW b o).elu, hW'⟩

variable {I₀ I₁ I₂ I₃ : ℕ}

/-- The three layers as the kernel computes them. -/
def scaledNet (bl : Fin B → Fin E → EReal) (x : Fin B → Fin I₀ → EReal) (W₀ : Fin E → Fin I₁ → Fin I₀ → EReal)
    (W₁ : Fin E → Fin I₂ → Fin I₁ → EReal) (W₂ : Fin E → Fin I₃ → Fin I₂ → EReal) : Fin B → Fin I₃ → EReal :=
  scaled bl (fun b o => elu (scaled bl (fun b o => elu (scaled bl x W₀ b o)) W₁ b o)) W₂

/-- The three layers as the reference computes them. -/
def blendedNet (bl : Fin B → Fin E → EReal) (x : Fin B → Fin I₀ → EReal) (W₀ : Fin E → Fin I₁ → Fin I₀ → EReal)
    (W₁ : Fin E → Fin I₂ → Fin I₁ → EReal) (W₂ : Fin E → Fin I₃ → Fin I₂ → EReal) : Fin B → Fin I₃ → EReal :=
  blended bl (fun b o => elu (blended bl (fun b o => elu (blended bl x W₀ b o)) W₁ b o)) W₂

/-- The kernel's three layers are the reference's, where the weights are nonnegative and finite or all data is finite. -/
theorem scaledNet_eq_blendedNet (bl : Fin B → Fin E → EReal) (x : Fin B → Fin I₀ → EReal)
    (W₀ : Fin E → Fin I₁ → Fin I₀ → EReal) (W₁ : Fin E → Fin I₂ → Fin I₁ → EReal) (W₂ : Fin E → Fin I₃ → Fin I₂ → EReal)
    (hd : (∀ b e, 0 ≤ bl b e ∧ bl b e < ⊤)
      ∨ (∀ b e, Finite (bl b e)) ∧ (∀ b i, Finite (x b i)) ∧ (∀ e o i, Finite (W₀ e o i)) ∧ (∀ e o i, Finite (W₁ e o i))
        ∧ ∀ e o i, Finite (W₂ e o i)) :
    scaledNet bl x W₀ W₁ W₂ = blendedNet bl x W₀ W₁ W₂ := by
  have d₀ : Distributes bl x W₀ := hd.imp_right fun h => ⟨h.1, h.2.1, h.2.2.1⟩
  have d₁ := d₀.next (W' := W₁) (hd.imp_right fun h => h.2.2.2.1)
  have d₂ := d₁.next (W' := W₂) (hd.imp_right fun h => h.2.2.2.2)
  unfold scaledNet blendedNet
  rw [scaled_eq_blended bl x W₀ d₀, scaled_eq_blended bl _ W₁ d₁, scaled_eq_blended bl _ W₂ d₂]

end Cert.Blend

end
-- ==== Proof.Block.lean ====
/-
  What one block of each layer's kernel computes, at an index: for row `r` and batch column `c` of the block, the sum
  over the experts of their products with the scaled inputs, under the exponential linear unit in the first two layers.
-/
module

public import proofs.«01_k».proof.Proof.Gen.KernelIdeal.Frame
public import proofs.«01_k».proof.Proof.Blend
public import Idealize.ShloMosaic.Lib.Pointwise
public import Idealize.ShloMosaic.Lib.Pipeline.ValueKit.Acc

@[expose] public section

set_option maxRecDepth 16384

noncomputable section

namespace Cert.KernelIdeal.Block

open Cert.KernelIdeal Cert.KernelIdeal.Gen Idealize.ShloMosaic Cert.Blend
open scoped BigOperators

/-- The first layer's block: the inputs arrive one batch element to a row. -/
theorem out0 (x0 : Vec Ideal S8x1024 .f32) (x1 : Vec Ideal S1024x512 .f32) (x2 : Vec Ideal S8x1024x512 .f32)
    (r c : Fin 1024) :
    out0_3 x0 x1 x2 (ix2 r c) = elu (∑ e : Fin 8, ∑ k : Fin 512, x2 (ix3 e r k) * (x1 (ix2 c k) * x0 (ix2 e c))) := by
  unfold out0_3
  frame_out
  unfold_payloads
  pointwise
  rw [Fin.sum_univ_eight]
  rfl

/-- The second layer's block: the inputs arrive one batch element to a column. -/
theorem out1 (x0 : Vec Ideal S8x1024 .f32) (x1 : Vec Ideal S1024x1024 .f32) (x2 : Vec Ideal S8x1024x1024 .f32)
    (r c : Fin 1024) :
    out1_3 x0 x1 x2 (ix2 r c) = elu (∑ e : Fin 8, ∑ k : Fin 1024, x2 (ix3 e r k) * (x1 (ix2 k c) * x0 (ix2 e c))) := by
  unfold out1_3
  frame_out
  unfold_payloads
  pointwise
  rw [Fin.sum_univ_eight]
  rfl

/-- The third layer's block, which has no unit and leaves one batch element to a row. -/
theorem out2 (x0 : Vec Ideal S8x1024 .f32) (x1 : Vec Ideal S1024x1024 .f32) (x2 : Vec Ideal S8x512x1024 .f32)
    (c : Fin 1024) (r : Fin 512) :
    out2_3 x0 x1 x2 (ix2 c r) = ∑ e : Fin 8, ∑ k : Fin 1024, x2 (ix3 e r k) * (x1 (ix2 k c) * x0 (ix2 e c)) := by
  unfold out2_3
  frame_out
  unfold_payloads
  pointwise
  rw [Fin.sum_univ_eight]

end Cert.KernelIdeal.Block

end
-- ==== Proof.Arrays.lean ====
/-
  What each of the three kernels leaves in its result array, at any entry contents `V`: the whole layer, whatever the
  grid. The blocks are 1024 batch elements wide, and the four of them cover the batch.
-/
module

public import proofs.«01_k».proof.Proof.Block
public import Idealize.ShloMosaic.Lib.Pipeline.ValueKit.Geometry

@[expose] public section

set_option maxRecDepth 16384

noncomputable section

namespace Cert.KernelIdeal.Arrays

open Cert.KernelIdeal Cert.KernelIdeal.Gen Idealize.ShloMosaic Idealize.ShloMosaic.TcCoe Cert.Blend
open Idealize.ShloMosaic.Pipeline (Dat)
open scoped BigOperators

variable (V : (c : Dev nD) → (b : Ref sig .tc) → Buf (Elt Ideal) ((c : Thread nD τ).loc b)) (c : Dev nD)

/-- The blend weights, as the kernels find them: one batch element to a column. -/
def weights (b : Fin 4096) (e : Fin 8) : EReal := (V c main_v0 : S8x4096.Idx → EReal) (ix2 e b)

/-- The batch element at column `q` of block `t`. -/
def pos (t : Fin 4) (q : Fin 1024) : Fin 4096 := ⟨t.val * 1024 + q.val, by omega⟩

/-! ### The first kernel -/

/-- The first kernel's inputs, one batch element to a row. -/
def input0 (b : Fin 4096) (k : Fin 512) : EReal := (V c main_arg1 : S4096x512.Idx → EReal) (ix2 b k)

/-- The first kernel's matrices. -/
def matrix0 (e : Fin 8) (o : Fin 1024) (k : Fin 512) : EReal := (V c main_arg2 : S8x1024x512.Idx → EReal) (ix3 e o k)

/-- What the first kernel leaves: the first layer of the inputs, one batch element to a column. -/
def layer0 (i : S1024x4096.Idx) : EReal := elu (scaled (weights V c) (input0 V c) (matrix0 V c) (i 1) (i 0))

/-- Which block of the weights each step of the first kernel has. -/
theorem index0_0 : ∀ t : Fin cfg0.N, win0_0.index t = ![0, t.val] := by decide +kernel
/-- Which block of the inputs each step of the first kernel has. -/
theorem index0_1 : ∀ t : Fin cfg0.N, win0_1.index t = ![t.val, 0] := by decide +kernel
/-- Which block of the matrices each step of the first kernel has. -/
theorem index0_2 : ∀ t : Fin cfg0.N, win0_2.index t = ![0, 0, 0] := by decide +kernel
/-- Which block of the result each step of the first kernel has. -/
theorem index0_3 : ∀ t : Fin cfg0.N, win0_3.index t = ![0, t.val] := by decide +kernel

/-- Block `t` of the weights. -/
theorem block0_0 (t : Fin cfg0.N) (e : Fin 8) (q : Fin 1024) :
    (iblk0 V c 0 t : S8x1024.Idx → EReal) (ix2 e q) = weights V c (pos t q) e := by
  unfold weights
  blk_simp [iblk0]
  refine congrArg (V c main_v0) ?_
  blk_ext [index0_0, pos]

/-- Block `t` of the inputs. -/
theorem block0_1 (t : Fin cfg0.N) (q : Fin 1024) (k : Fin 512) :
    (iblk0 V c 1 t : S1024x512.Idx → EReal) (ix2 q k) = input0 V c (pos t q) k := by
  unfold input0
  blk_simp [iblk0]
  refine congrArg (V c main_arg1) ?_
  blk_ext [index0_1, pos]

/-- Every block of the matrices is all of them. -/
theorem block0_2 (t : Fin cfg0.N) (e : Fin 8) (o : Fin 1024) (k : Fin 512) :
    (iblk0 V c 2 t : S8x1024x512.Idx → EReal) (ix3 e o k) = matrix0 V c e o k := by
  unfold matrix0
  blk_simp [iblk0]
  refine congrArg (V c main_arg2) ?_
  blk_ext [index0_2]

/-- Where block `t` of the result lies in it. -/
theorem place0 (t : Fin cfg0.N) (o : Fin 1024) (q : Fin 1024) :
    ((win0_3.blk t).view.emb (ix2 o q : S1024x1024.Idx) : S1024x4096.Idx) = ix2 o (pos t q) := by
  blk_ext [index0_3, pos]

/-- The first kernel's result array is the first layer. -/
theorem array0 : (dat0 V c).arrAt 3 cfg0.N = layer0 V c := by
  refine (dat0 V c).arrAt_eq_of_covers 3 _ (by decide +kernel) fun t hf y => ?_
  blk_simp
  rw [after0_3]
  obtain ⟨o, q, rfl⟩ : ∃ (o : Fin 1024) (q : Fin 1024), y = ix2 o q := ⟨y 0, y 1, eq_ix2 y⟩
  refine (Block.out0 _ _ _ o q).trans ?_
  rw [place0]
  simp only [block0_0, block0_1, block0_2]
  rfl

/-! ### The second kernel -/

/-- The second kernel's inputs, one batch element to a column. -/
def input1 (b : Fin 4096) (k : Fin 1024) : EReal := (V c main_v1 : S1024x4096.Idx → EReal) (ix2 k b)

/-- The second kernel's matrices. -/
def matrix1 (e : Fin 8) (o : Fin 1024) (k : Fin 1024) : EReal := (V c main_arg4 : S8x1024x1024.Idx → EReal) (ix3 e o k)

/-- What the second kernel leaves: the second layer of its inputs, one batch element to a column. -/
def layer1 (i : S1024x4096.Idx) : EReal := elu (scaled (weights V c) (input1 V c) (matrix1 V c) (i 1) (i 0))

/-- Which block of the weights each step of the second kernel has. -/
theorem index1_0 : ∀ t : Fin cfg1.N, win1_0.index t = ![0, t.val] := by decide +kernel
/-- Which block of the inputs each step of the second kernel has. -/
theorem index1_1 : ∀ t : Fin cfg1.N, win1_1.index t = ![0, t.val] := by decide +kernel
/-- Which block of the matrices each step of the second kernel has. -/
theorem index1_2 : ∀ t : Fin cfg1.N, win1_2.index t = ![0, 0, 0] := by decide +kernel
/-- Which block of the result each step of the second kernel has. -/
theorem index1_3 : ∀ t : Fin cfg1.N, win1_3.index t = ![0, t.val] := by decide +kernel

/-- Block `t` of the weights. -/
theorem block1_0 (t : Fin cfg1.N) (e : Fin 8) (q : Fin 1024) :
    (iblk1 V c 0 t : S8x1024.Idx → EReal) (ix2 e q) = weights V c (pos t q) e := by
  unfold weights
  blk_simp [iblk1]
  refine congrArg (V c main_v0) ?_
  blk_ext [index1_0, pos]

/-- Block `t` of the inputs. -/
theorem block1_1 (t : Fin cfg1.N) (k : Fin 1024) (q : Fin 1024) :
    (iblk1 V c 1 t : S1024x1024.Idx → EReal) (ix2 k q) = input1 V c (pos t q) k := by
  unfold input1
  blk_simp [iblk1]
  refine congrArg (V c main_v1) ?_
  blk_ext [index1_1, pos]

/-- Every block of the matrices is all of them. -/
theorem block1_2 (t : Fin cfg1.N) (e : Fin 8) (o : Fin 1024) (k : Fin 1024) :
    (iblk1 V c 2 t : S8x1024x1024.Idx → EReal) (ix3 e o k) = matrix1 V c e o k := by
  unfold matrix1
  blk_simp [iblk1]
  refine congrArg (V c main_arg4) ?_
  blk_ext [index1_2]

/-- Where block `t` of the result lies in it. -/
theorem place1 (t : Fin cfg1.N) (o : Fin 1024) (q : Fin 1024) :
    ((win1_3.blk t).view.emb (ix2 o q : S1024x1024.Idx) : S1024x4096.Idx) = ix2 o (pos t q) := by
  blk_ext [index1_3, pos]

/-- The second kernel's result array is the second layer. -/
theorem array1 : (dat1 V c).arrAt 3 cfg1.N = layer1 V c := by
  refine (dat1 V c).arrAt_eq_of_covers 3 _ (by decide +kernel) fun t hf y => ?_
  blk_simp
  rw [after1_3]
  obtain ⟨o, q, rfl⟩ : ∃ (o : Fin 1024) (q : Fin 1024), y = ix2 o q := ⟨y 0, y 1, eq_ix2 y⟩
  refine (Block.out1 _ _ _ o q).trans ?_
  rw [place1]
  simp only [block1_0, block1_1, block1_2]
  rfl

/-! ### The third kernel -/

/-- The third kernel's inputs, one batch element to a column. -/
def input2 (b : Fin 4096) (k : Fin 1024) : EReal := (V c main_v2 : S1024x4096.Idx → EReal) (ix2 k b)

/-- The third kernel's matrices. -/
def matrix2 (e : Fin 8) (o : Fin 512) (k : Fin 1024) : EReal := (V c main_arg6 : S8x512x1024.Idx → EReal) (ix3 e o k)

/-- What the third kernel leaves: the third layer of its inputs, one batch element to a row. -/
def layer2 (i : S4096x512.Idx) : EReal := scaled (weights V c) (input2 V c) (matrix2 V c) (i 0) (i 1)

/-- Which block of the weights each step of the third kernel has. -/
theorem index2_0 : ∀ t : Fin cfg2.N, win2_0.index t = ![0, t.val] := by decide +kernel
/-- Which block of the inputs each step of the third kernel has. -/
theorem index2_1 : ∀ t : Fin cfg2.N, win2_1.index t = ![0, t.val] := by decide +kernel
/-- Which block of the matrices each step of the third kernel has. -/
theorem index2_2 : ∀ t : Fin cfg2.N, win2_2.index t = ![0, 0, 0] := by decide +kernel
/-- Which block of the result each step of the third kernel has. -/
theorem index2_3 : ∀ t : Fin cfg2.N, win2_3.index t = ![t.val, 0] := by decide +kernel

/-- Block `t` of the weights. -/
theorem block2_0 (t : Fin cfg2.N) (e : Fin 8) (q : Fin 1024) :
    (iblk2 V c 0 t : S8x1024.Idx → EReal) (ix2 e q) = weights V c (pos t q) e := by
  unfold weights
  blk_simp [iblk2]
  refine congrArg (V c main_v0) ?_
  blk_ext [index2_0, pos]

/-- Block `t` of the inputs. -/
theorem block2_1 (t : Fin cfg2.N) (k : Fin 1024) (q : Fin 1024) :
    (iblk2 V c 1 t : S1024x1024.Idx → EReal) (ix2 k q) = input2 V c (pos t q) k := by
  unfold input2
  blk_simp [iblk2]
  refine congrArg (V c main_v2) ?_
  blk_ext [index2_1, pos]

/-- Every block of the matrices is all of them. -/
theorem block2_2 (t : Fin cfg2.N) (e : Fin 8) (o : Fin 512) (k : Fin 1024) :
    (iblk2 V c 2 t : S8x512x1024.Idx → EReal) (ix3 e o k) = matrix2 V c e o k := by
  unfold matrix2
  blk_simp [iblk2]
  refine congrArg (V c main_arg6) ?_
  blk_ext [index2_2]

/-- Where block `t` of the result lies in it. -/
theorem place2 (t : Fin cfg2.N) (q : Fin 1024) (o : Fin 512) :
    ((win2_3.blk t).view.emb (ix2 q o : S1024x512.Idx) : S4096x512.Idx) = ix2 (pos t q) o := by
  blk_ext [index2_3, pos]

/-- The third kernel's result array is the third layer. -/
theorem array2 : (dat2 V c).arrAt 3 cfg2.N = layer2 V c := by
  refine (dat2 V c).arrAt_eq_of_covers 3 _ (by decide +kernel) fun t hf y => ?_
  blk_simp
  rw [after2_3]
  obtain ⟨q, o, rfl⟩ : ∃ (q : Fin 1024) (o : Fin 512), y = ix2 q o := ⟨y 0, y 1, eq_ix2 y⟩
  refine (Block.out2 _ _ _ q o).trans ?_
  rw [place2]
  simp only [block2_0, block2_1, block2_2]
  rfl

end Cert.KernelIdeal.Arrays

end
-- ==== Proof.Run.lean ====
/-
  The kernel's run: the three kernels one after the other, each reading what the one before it left. The result array
  ends at the three layers of the arguments as the kernel computes them, and the arguments are unchanged.
-/
module

public import proofs.«01_k».proof.Proof.Arrays
public import Idealize.ShloMosaic.Lib.StableHlo.Run

@[expose] public section

set_option maxRecDepth 16384

noncomputable section

namespace Cert.KernelIdeal.Run

open Cert.KernelIdeal Cert.KernelIdeal.Gen Cert.KernelIdeal.Arrays Cert.Blend
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg) (c : Dev nD)

/-- The blend weights of the arguments. -/
def bl (b : Fin 4096) (e : Fin 8) : EReal := (m ((c.tc : Thread nD τ).loc main_arg0) : S4096x8.Idx → EReal) (ix2 b e)
/-- The inputs. -/
def x (b : Fin 4096) (k : Fin 512) : EReal := (m ((c.tc : Thread nD τ).loc main_arg1) : S4096x512.Idx → EReal) (ix2 b k)
/-- The first layer's matrices. -/
def w0 (e : Fin 8) (o : Fin 1024) (k : Fin 512) : EReal :=
  (m ((c.tc : Thread nD τ).loc main_arg2) : S8x1024x512.Idx → EReal) (ix3 e o k)
/-- The second layer's matrices. -/
def w1 (e : Fin 8) (o : Fin 1024) (k : Fin 1024) : EReal :=
  (m ((c.tc : Thread nD τ).loc main_arg4) : S8x1024x1024.Idx → EReal) (ix3 e o k)
/-- The third layer's matrices. -/
def w2 (e : Fin 8) (o : Fin 512) (k : Fin 1024) : EReal :=
  (m ((c.tc : Thread nD τ).loc main_arg6) : S8x512x1024.Idx → EReal) (ix3 e o k)

/-- The result array: the three layers as the kernel computes them. -/
def result (i : S4096x512.Idx) : EReal := scaledNet (bl m c) (x m c) (w0 m c) (w1 m c) (w2 m c) (i 0) (i 1)

/-! ### What each kernel finds -/

/-- The first kernel finds the weights of the arguments, transposed. -/
theorem weights1 : weights (V1 m ρ) c = bl m c := by
  funext b e
  show (V1 m ρ c main_v0 : S8x4096.Idx → EReal) (ix2 e b) = _
  have : (V1 m ρ c main_v0 : S8x4096.Idx → EReal)
      = transpose S8x4096 [1, 0] (m ((c.tc : Thread nD τ).loc main_arg0)) transposes_S4096x8_S8x4096_1_0 := by
    show StableHlo.after hostOps0 (W0 m ρ c) (Proc.devRef .tc main_v0) = _
    after_results_simp
  rw [this]
  pointwise
  rfl

/-- The weights stay as they were through the first kernel. -/
theorem weights2 : weights (V2 m ρ) c = bl m c := by
  rw [← weights1 m ρ]
  funext b e
  exact congrFun (W2_of m ρ c main_v0 (by decide +kernel)) (ix2 e b)

/-- The weights stay as they were through the second kernel. -/
theorem weights3 : weights (V3 m ρ) c = bl m c := by
  rw [← weights2 m ρ]
  funext b e
  exact congrFun (W3_of m ρ c main_v0 (by decide +kernel)) (ix2 e b)

/-- The first kernel finds the inputs of the arguments. -/
theorem input_first : input0 (V1 m ρ) c = x m c := by
  funext b k
  exact congrFun (W1_args m ρ c main_arg1 (by decide)) (ix2 b k)

/-- The first kernel finds its matrices as the arguments have them. -/
theorem matrix_first : matrix0 (V1 m ρ) c = w0 m c := by
  funext e o k
  exact congrFun (W1_args m ρ c main_arg2 (by decide)) (ix3 e o k)

/-- The second kernel finds its matrices as the arguments have them. -/
theorem matrix_second : matrix1 (V2 m ρ) c = w1 m c := by
  funext e o k
  exact congrFun (W2_args m ρ c main_arg4 (by decide)) (ix3 e o k)

/-- The third kernel finds its matrices as the arguments have them. -/
theorem matrix_third : matrix2 (V3 m ρ) c = w2 m c := by
  funext e o k
  exact congrFun (W3_args m ρ c main_arg6 (by decide)) (ix3 e o k)

/-- The second kernel finds the first layer. -/
theorem input_second : input1 (V2 m ρ) c = fun b o => elu (scaled (bl m c) (x m c) (w0 m c) b o) := by
  rw [← weights1 m ρ, ← input_first m ρ, ← matrix_first m ρ]
  funext b o
  exact congrFun ((W2_arr m ρ c 3).trans (array0 (V1 m ρ) c)) (ix2 o b)

/-- The third kernel finds the second layer. -/
theorem input_third : input2 (V3 m ρ) c
    = fun b o => elu (scaled (bl m c) (fun b o => elu (scaled (bl m c) (x m c) (w0 m c) b o)) (w1 m c) b o) := by
  rw [← input_second m ρ, ← weights2 m ρ, ← matrix_second m ρ]
  funext b o
  exact congrFun ((W3_arr m ρ c 3).trans (array1 (V2 m ρ) c)) (ix2 o b)

/-- What the third kernel leaves in the result array. -/
theorem result_eq : W4 m ρ c (Proc.devRef .tc main_v3) = result m c := by
  refine (W4_arr m ρ c 3).trans ((array2 (V3 m ρ) c).trans ?_)
  funext i
  unfold result scaledNet
  rw [← input_third m ρ, ← weights3 m ρ, ← matrix_third m ρ]
  rfl

-- the launch theorem's implicit arguments are found by unifying its conclusion with this one
set_option backward.isDefEq.respectTransparency.types false in
/-- Every weakly fair execution ends with the result array at the three layers and the arguments unchanged. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      have arg (a : Ref sig .tc) (ha : a ∈ argRefs) (hu : Proc.devRef .tc a ∈ Pipeline.ucRefs τ sig) :=
        (h c _ hu).trans (W4_args m ρ c a ha)
      ⟨(h c _ (mem_uc main_v3 (by decide))).trans (result_eq m ρ c),
        arg _ (by decide) (mem_uc main_arg0 (by decide)), arg _ (by decide) (mem_uc main_arg1 (by decide)),
        arg _ (by decide) (mem_uc main_arg2 (by decide)), arg _ (by decide) (mem_uc main_arg3 (by decide)),
        arg _ (by decide) (mem_uc main_arg4 (by decide)), arg _ (by decide) (mem_uc main_arg5 (by decide)),
        arg _ (by decide) (mem_uc main_arg6 (by decide)), arg _ (by decide) (mem_uc main_arg7 (by decide))⟩)

end Cert.KernelIdeal.Run

end
-- ==== Proof.Reference.lean ====
/-
  What the reference computes. Its result is three blended layers, each with its bias blended in the same way; where the
  biases are zero it is the blended network of the arguments.
-/
module

public import proofs.«01_k».proof.Proof.Blend
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Layers

open Cert.ReferenceIdeal Cert.ReferenceIdeal.Gen Cert.ReferenceIdeal.Value Cert.Blend
open Idealize.ShloMosaic Idealize.ShloMosaic.TcCoe

/-- The first layer before its activation: the experts' outputs and the experts' biases, blended. -/
def first (bl : FVec Ideal S4096x8 .f32) (h : FVec Ideal S4096x512 .f32) (W : FVec Ideal S8x1024x512 .f32)
    (B : FVec Ideal S8x1024 .f32) : FVec Ideal S4096x1024 .f32 :=
  addf (Host.dotGeneral dot_S4096x8_S4096x8x1024_S4096x1024_1_1_n_2_0_0 none bl
      (Host.dotGeneral dot_S4096x512_S8x1024x512_S4096x8x1024_1_2_0_01_n_n none h W))
    (Host.dotGeneral dot_S4096x8_S8x1024_S4096x1024_1_0_0_1_n_n none bl B)

/-- The second layer before its activation. -/
def second (bl : FVec Ideal S4096x8 .f32) (h : FVec Ideal S4096x1024 .f32) (W : FVec Ideal S8x1024x1024 .f32)
    (B : FVec Ideal S8x1024 .f32) : FVec Ideal S4096x1024 .f32 :=
  addf (Host.dotGeneral dot_S4096x8_S4096x8x1024_S4096x1024_1_1_n_2_0_0 none bl
      (Host.dotGeneral dot_S4096x1024_S8x1024x1024_S4096x8x1024_1_2_0_01_n_n none h W))
    (Host.dotGeneral dot_S4096x8_S8x1024_S4096x1024_1_0_0_1_n_n none bl B)

/-- The third layer. -/
def third (bl : FVec Ideal S4096x8 .f32) (h : FVec Ideal S4096x1024 .f32) (W : FVec Ideal S8x512x1024 .f32)
    (B : FVec Ideal S8x512 .f32) : FVec Ideal S4096x512 .f32 :=
  addf (Host.dotGeneral dot_S4096x8_S4096x8x512_S4096x512_1_1_n_2_0_0 none bl
      (Host.dotGeneral dot_S4096x1024_S8x512x1024_S4096x8x512_1_2_0_01_n_n none h W))
    (Host.dotGeneral dot_S4096x8_S8x512_S4096x512_1_0_0_1_n_n none bl B)

/-- The activation, with the exponential guarded from the positive inputs. -/
def act (y : FVec Ideal S4096x1024 .f32) : FVec Ideal S4096x1024 .f32 :=
  select (cmpf .ogt y (broadcastInDim S4096x1024 ![] bcast_S_S4096x1024 (constant S_ .f32 0x00000000#32))) y
    (mulf (broadcastInDim S4096x1024 ![] bcast_S_S4096x1024 (constant S_ .f32 0x3F800000#32))
      (Host.expm1 (select
        (cmpf .ogt y (broadcastInDim S4096x1024 ![] bcast_S_S4096x1024 (constant S_ .f32 0x00000000#32)))
        (broadcastInDim S4096x1024 ![] bcast_S_S4096x1024 (id (constant S_ .f32 0x00000000#32))) y)))

/-- The result is the three layers, one after the other. -/
theorem result_layers (m : (ℓ : Loc nD τ sig) → Buf (Elt Ideal) ℓ) (c : Dev nD) :
    res_out0 m c = third (m ((c.tc : Thread nD τ).loc main_arg0))
      (act (second (m ((c.tc : Thread nD τ).loc main_arg0))
        (act (first (m ((c.tc : Thread nD τ).loc main_arg0)) (m ((c.tc : Thread nD τ).loc main_arg1))
          (m ((c.tc : Thread nD τ).loc main_arg2)) (m ((c.tc : Thread nD τ).loc main_arg3))))
        (m ((c.tc : Thread nD τ).loc main_arg4)) (m ((c.tc : Thread nD τ).loc main_arg5))))
      (m ((c.tc : Thread nD τ).loc main_arg6)) (m ((c.tc : Thread nD τ).loc main_arg7)) := rfl

/-- An activated entry is the exponential linear unit of the entry. -/
theorem act_apply (y : FVec Ideal S4096x1024 .f32) (b : Fin 4096) (o : Fin 1024) :
    act y (ix2 b o) = elu (y (ix2 b o)) := by
  unfold act elu
  pointwise
  split_ifs <;> simp_all

/-- With zero biases an entry of the first layer is the blended layer's. -/
theorem first_apply (bl : FVec Ideal S4096x8 .f32) (h : FVec Ideal S4096x512 .f32) (W : FVec Ideal S8x1024x512 .f32)
    (B : FVec Ideal S8x1024 .f32) (hB : ∀ i, B i = 0) (b : Fin 4096) (o : Fin 1024) :
    first bl h W B (ix2 b o)
      = blended (fun b e => bl (ix2 b e)) (fun b k => h (ix2 b k)) (fun e o k => W (ix3 e o k)) b o := by
  unfold first blended
  pointwise
  simp [hB]

/-- With zero biases an entry of the second layer is the blended layer's. -/
theorem second_apply (bl : FVec Ideal S4096x8 .f32) (h : FVec Ideal S4096x1024 .f32)
    (W : FVec Ideal S8x1024x1024 .f32) (B : FVec Ideal S8x1024 .f32) (hB : ∀ i, B i = 0) (b : Fin 4096) (o : Fin 1024) :
    second bl h W B (ix2 b o)
      = blended (fun b e => bl (ix2 b e)) (fun b k => h (ix2 b k)) (fun e o k => W (ix3 e o k)) b o := by
  unfold second blended
  pointwise
  simp [hB]

/-- With zero biases an entry of the third layer is the blended layer's. -/
theorem third_apply (bl : FVec Ideal S4096x8 .f32) (h : FVec Ideal S4096x1024 .f32)
    (W : FVec Ideal S8x512x1024 .f32) (B : FVec Ideal S8x512 .f32) (hB : ∀ i, B i = 0) (b : Fin 4096) (o : Fin 512) :
    third bl h W B (ix2 b o)
      = blended (fun b e => bl (ix2 b e)) (fun b k => h (ix2 b k)) (fun e o k => W (ix3 e o k)) b o := by
  unfold third blended
  pointwise
  simp [hB]

/-- With zero biases an entry of the result is the blended network's. -/
theorem result_apply (m : (ℓ : Loc nD τ sig) → Buf (Elt Ideal) ℓ) (c : Dev nD)
    (h3 : ∀ i, (m ((c.tc : Thread nD τ).loc main_arg3) : FVec Ideal S8x1024 .f32) i = (0 : EReal))
    (h5 : ∀ i, (m ((c.tc : Thread nD τ).loc main_arg5) : FVec Ideal S8x1024 .f32) i = (0 : EReal))
    (h7 : ∀ i, (m ((c.tc : Thread nD τ).loc main_arg7) : FVec Ideal S8x512 .f32) i = (0 : EReal))
    (b : Fin 4096) (o : Fin 512) :
    (res_out0 m c : FVec Ideal S4096x512 .f32) (ix2 b o)
      = blendedNet
          (fun b e => (m ((c.tc : Thread nD τ).loc main_arg0) : FVec Ideal S4096x8 .f32) (ix2 b e))
          (fun b k => (m ((c.tc : Thread nD τ).loc main_arg1) : FVec Ideal S4096x512 .f32) (ix2 b k))
          (fun e o k => (m ((c.tc : Thread nD τ).loc main_arg2) : FVec Ideal S8x1024x512 .f32) (ix3 e o k))
          (fun e o k => (m ((c.tc : Thread nD τ).loc main_arg4) : FVec Ideal S8x1024x1024 .f32) (ix3 e o k))
          (fun e o k => (m ((c.tc : Thread nD τ).loc main_arg6) : FVec Ideal S8x512x1024 .f32) (ix3 e o k)) b o := by
  rw [result_layers, third_apply _ _ _ _ h7]
  simp only [act_apply, second_apply _ _ _ _ h5, first_apply _ _ _ _ h3]
  rfl

end Cert.ReferenceIdeal.Layers

end
-- ==== Proof.Precondition.lean ====
/-
  What the precondition says of the arrays: every bias is zero, and either the blend weights are nonnegative and finite
  or the weights, the inputs and the matrices are all finite.
-/
module

public import proofs.«01_k».proof.Proof.Blend
public import proofs.«01_k».proof.Proof.Gen.Pre_unbiased_and_distributing
public import Idealize.ShloMosaic.Lib.ReduceAll
public import Idealize.ShloMosaic.Lib.WordCmp
public import Idealize.ShloMosaic.Lib.Pointwise

@[expose] public section

set_option maxRecDepth 16384

noncomputable section

namespace Cert.Pre_unbiased_and_distributing.Meaning

open Cert.Pre_unbiased_and_distributing Cert.Pre_unbiased_and_distributing.Gen Cert.Blend
open Idealize.ShloMosaic

/-- The rank-0 array has one index. -/
instance : Subsingleton S_.Idx := ⟨fun _ _ => funext fun a => a.elim0⟩

/-- The word of positive infinity. -/
theorem ofBits_inf : Ideal.ofBits (φ := .f32) 0x7F800000#32 = ⊤ := by simp [Ideal.ofBits, Ideal.ieee]
/-- The word of negative infinity. -/
theorem ofBits_neg_inf : Ideal.ofBits (φ := .f32) 0xFF800000#32 = ⊥ := by simp [Ideal.ofBits, Ideal.ieee]

section Arrays

variable {s : Shape} {axes : List (Fin s.rank)} {x : FVec Ideal s .f32} {d : Fin 0 → Fin s.rank}
  {hb hb' : S_.BroadcastsInDim s d} {hr : s.ReducesTo axes S_} {hu : 0 < S_.numel} {j : S_.Idx}

/-- An array whose entries all equal the zero word is zero. -/
theorem all_zero (e : Host.reduce IntOp.andi
      (cmpf .oeq x (broadcastInDim s d hb (constant S_ .f32 0x00000000#32))) (constantI S_ 1 1#1) hr hu j = 1#1)
    (i : s.Idx) : x i = (0 : EReal) := by
  have h := Host.reduce_andi_all _ _ hr hu j e i
  change Ideal.cmp .oeq (x i) (Ideal.ofBits (φ := .f32) 0x00000000#32) = 1#1 at h
  rw [Ideal.ofBits_zero_f32] at h
  simpa [Ideal.cmp, WordCmp.ofBool_eq_one_iff] using h

/-- An array whose entries are all at least the zero word and below the infinite one is nonnegative and finite. -/
theorem all_nonneg (e : Host.reduce IntOp.andi
      (andi (cmpf .oge x (broadcastInDim s d hb (constant S_ .f32 0x00000000#32)))
        (cmpf .olt x (broadcastInDim s d hb' (constant S_ .f32 0x7F800000#32)))) (constantI S_ 1 1#1) hr hu j = 1#1)
    (i : s.Idx) : (0 : EReal) ≤ x i ∧ x i < (⊤ : EReal) := by
  have h := Host.reduce_andi_all _ _ hr hu j e i
  change IntOp.andi (Ideal.cmp .oge (x i) (Ideal.ofBits (φ := .f32) 0x00000000#32))
    (Ideal.cmp .olt (x i) (Ideal.ofBits (φ := .f32) 0x7F800000#32)) = 1#1 at h
  rw [IntOp.andi_eq_one, Ideal.ofBits_zero_f32, ofBits_inf] at h
  simpa [Ideal.cmp, WordCmp.ofBool_eq_one_iff] using h

/-- An array whose entries all lie strictly between the infinite words is finite. -/
theorem all_finite (e : Host.reduce IntOp.andi
      (andi (cmpf .ogt x (broadcastInDim s d hb (constant S_ .f32 0xFF800000#32)))
        (cmpf .olt x (broadcastInDim s d hb' (constant S_ .f32 0x7F800000#32)))) (constantI S_ 1 1#1) hr hu j = 1#1)
    (i : s.Idx) : Finite (x i) := by
  have h := Host.reduce_andi_all _ _ hr hu j e i
  change IntOp.andi (Ideal.cmp .ogt (x i) (Ideal.ofBits (φ := .f32) 0xFF800000#32))
    (Ideal.cmp .olt (x i) (Ideal.ofBits (φ := .f32) 0x7F800000#32)) = 1#1 at h
  rw [IntOp.andi_eq_one, ofBits_neg_inf, ofBits_inf] at h
  simpa [Ideal.cmp, WordCmp.ofBool_eq_one_iff, Blend.Finite] using h

end Arrays

variable {a0 : FVec Ideal S4096x8 .f32} {a1 : FVec Ideal S4096x512 .f32} {a2 : FVec Ideal S8x1024x512 .f32}
  {a3 : FVec Ideal S8x1024 .f32} {a4 : FVec Ideal S8x1024x1024 .f32} {a5 : FVec Ideal S8x1024 .f32}
  {a6 : FVec Ideal S8x512x1024 .f32} {a7 : FVec Ideal S8x512 .f32}

/-- Where the predicate holds, every bias is zero, and the weights are nonnegative and finite or all data is finite. -/
theorem meaning (h : fn (F := Ideal) a0 a1 a2 a3 a4 a5 a6 a7 = fun _ => 1#1) :
    ((∀ i, a3 i = (0 : EReal)) ∧ (∀ i, a5 i = (0 : EReal)) ∧ ∀ i, a7 i = (0 : EReal))
    ∧ ((∀ i, (0 : EReal) ≤ a0 i ∧ a0 i < (⊤ : EReal))
      ∨ (∀ i, Finite (a0 i)) ∧ (∀ i, Finite (a1 i)) ∧ (∀ i, Finite (a2 i)) ∧ (∀ i, Finite (a4 i))
        ∧ ∀ i, Finite (a6 i)) := by
  have e := congrFun h (fun a => a.elim0)
  simp only [fn, fn_part1, fn_part2, fn_part3, andi, ori, IntOp.andi_eq_one, IntOp.ori_eq_one] at e
  obtain ⟨⟨⟨e3, e5⟩, e7⟩, e⟩ := e
  refine ⟨⟨all_zero e3, all_zero e5, all_zero e7⟩, ?_⟩
  rcases e with e | ⟨⟨⟨⟨f0, f1⟩, f2⟩, f4⟩, f6⟩
  · exact .inl (all_nonneg e)
  · exact .inr ⟨all_finite f0, all_finite f1, all_finite f2, all_finite f4, all_finite f6⟩

end Cert.Pre_unbiased_and_distributing.Meaning

end
-- ==== Proof.Equation.lean ====
/-
  The equation of the two programs: under the precondition, from memories whose arguments agree, the kernel's result
  array and the reference's are the same blended network.
-/
module

public import proofs.«01_k».proof.Defs
public import proofs.«01_k».proof.Proof.Run
public import proofs.«01_k».proof.Proof.Reference
public import proofs.«01_k».proof.Proof.Precondition

@[expose] public section

noncomputable section

namespace Cert.Equation

open Cert.Blend Cert.Pre_unbiased_and_distributing.Meaning
open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- Where the precondition holds and the arguments agree, the reference's result is the kernel's. -/
theorem result_eq (c : Dev KernelIdeal.nD) (hpre : Cert.Pre_KernelIdeal_unbiased_and_distributing m)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3))
    (h4 : m' ((c.tc : Thread ReferenceIdeal.nD ReferenceIdeal.τ).loc ReferenceIdeal.main_arg4)
      = m ((c.tc : Thread KernelIdeal.nD KernelIdeal.τ).loc KernelIdeal.main_arg4))
    (h5 : m' ((c.tc : Thread ReferenceIdeal.nD ReferenceIdeal.τ).loc ReferenceIdeal.main_arg5)
      = m ((c.tc : Thread KernelIdeal.nD KernelIdeal.τ).loc KernelIdeal.main_arg5))
    (h6 : m' ((c.tc : Thread ReferenceIdeal.nD ReferenceIdeal.τ).loc ReferenceIdeal.main_arg6)
      = m ((c.tc : Thread KernelIdeal.nD KernelIdeal.τ).loc KernelIdeal.main_arg6))
    (h7 : m' ((c.tc : Thread ReferenceIdeal.nD ReferenceIdeal.τ).loc ReferenceIdeal.main_arg7)
      = m ((c.tc : Thread KernelIdeal.nD KernelIdeal.τ).loc KernelIdeal.main_arg7)) :
    ReferenceIdeal.Value.res_out0 m' c = KernelIdeal.Run.result m c := by
  obtain ⟨⟨z3, z5, z7⟩, hd⟩ := meaning (hpre c)
  rw [← h3] at z3
  rw [← h5] at z5
  rw [← h7] at z7
  funext i
  refine (congrArg (ReferenceIdeal.Value.res_out0 m' c : ReferenceIdeal.S4096x512.Idx → EReal) (eq_ix2 i)).trans
    ((ReferenceIdeal.Layers.result_apply m' c z3 z5 z7 (i 0) (i 1)).trans ?_)
  rw [h0, h1, h2, h4, h6]
  refine (congrFun (congrFun (scaledNet_eq_blendedNet _ _ _ _ _ ?_) (i 0)) (i 1)).symm
  rcases hd with hd | ⟨f0, f1, f2, f4, f6⟩
  · exact .inl fun b e => hd (ix2 b e)
  · exact .inr ⟨fun b e => f0 (ix2 b e), fun b k => f1 (ix2 b k), fun e o k => f2 (ix3 e o k),
      fun e o k => f4 (ix3 e o k), fun e o k => f6 (ix3 e o k)⟩

/-- The two programs compute the same function under the precondition. -/
theorem algebraic : Cert.algebraic_KernelIdeal_ReferenceIdeal_pre_unbiased_and_distributing := by
  intro m g m' g' hpre hagree
  refine ⟨fun c => KernelIdeal.Run.result m c, KernelIdeal.Run.run m g,
    (θ_run ReferenceIdeal.defs _ _).mono (fun _ h c => ⟨(h c).1.trans ?_, (h c).2⟩) (ReferenceIdeal.Value.run m' g')⟩
  obtain ⟨h0, h1, h2, h3, h4, h5, h6, h7⟩ := hagree c
  exact result_eq m m' c hpre h0 h1 h2 h3 h4 h5 h6 h7

end Cert.Equation

end
-- ==== Proof.lean ====
/-
  The certificate's claim, assembled: the three frames, the idealization step, and the algebraic equality of the kernel
  and the reference under the precondition (`Proof/Equation.lean`).

  `Proof/Blend.lean` has the arithmetic, `Proof/Block.lean` what one block computes, `Proof/Arrays.lean` what each kernel
  leaves in its array, `Proof/Run.lean` the three kernels in a row, `Proof/Reference.lean` the reference's result, and
  `Proof/Precondition.lean` what the precondition says.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_unbiased_and_distributing
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as they were; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts,
    Cert.Pre_unbiased_and_distributing.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, Cert.Equation.algebraic⟩

end Cert.Proof

end
